-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "c2" .f32 0x3E38AA3B#32 (((Real.log 256)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16x1024x64 : Shape := ⟨3, ![16, 1024, 64]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024x64 : S_.BroadcastsInDim S16x1024x64 (![] : Fin 0 → Fin S16x1024x64.rank)
  reducesTo_S16x1024x64_S_d0_1_2 : S16x1024x64.ReducesTo [0, 1, 2] S_

variable [Facts]

def fn {F : FTy → Type} [FloatOps F] (main_arg0 : FVec F S4096x1024 .f32) (main_arg1 : FVec F S16x1024x64 .f32) (main_arg2 : FVec F S16x1024x64 .f32) (main_arg3 : FVec F S16x1024x64 .f32) (main_arg4 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1024x64 .f32 := Host.absf main_arg1
  let main_cst_0 : FVec F S_ .f32 := constant S_ .f32 0x7F800000#32
  let main_v5 : FVec F S16x1024x64 .f32 := broadcastInDim S16x1024x64 ![] bcast_S_S16x1024x64 main_cst_0
  let main_v6 : IVec S16x1024x64 1 := cmpf .olt main_v4 main_v5
  let main_c_1 : IVec S_ 1 := constantI S_ 1 1#1
  let main_v7 : IVec S_ 1 := (fun x v => Host.reduce IntOp.andi x v reducesTo_S16x1024x64_S_d0_1_2 h_S_) main_v6 main_c_1
  let main_v8 : IVec S_ 1 := andi main_v3 main_v7
  let main_v9 : FVec F S16x1024x64 .f32 := Host.absf main_arg2
  let main_cst_2 : FVec F S_ .f32 := constant S_ .f32 0x7F800000#32
  let main_v10 : FVec F S16x1024x64 .f32 := broadcastInDim S16x1024x64 ![] bcast_S_S16x1024x64 main_cst_2
  let main_v11 : IVec S16x1024x64 1 := cmpf .olt main_v9 main_v10
  let main_c_3 : IVec S_ 1 := constantI S_ 1 1#1
  let main_v12 : IVec S_ 1 := (fun x v => Host.reduce IntOp.andi x v reducesTo_S16x1024x64_S_d0_1_2 h_S_) main_v11 main_c_3
  let main_v13 : IVec S_ 1 := andi main_v8 main_v12
  main_v13
-- ==== Kernel.lean ====
abbrev S4096x1024 : Shape := ⟨2, ![4096, 1024]⟩
abbrev S16x1024x64 : Shape := ⟨3, ![16, 1024, 64]⟩
abbrev S1024x1024 : Shape := ⟨2, ![1024, 1024]⟩
abbrev S1024x16x64 : Shape := ⟨3, ![1024, 16, 64]⟩
abbrev S1024x3072 : Shape := ⟨2, ![1024, 3072]⟩
abbrev S16x4096x64 : Shape := ⟨3, ![16, 4096, 64]⟩
abbrev S16x4096x128 : Shape := ⟨3, ![16, 4096, 128]⟩
abbrev S16x1024x128 : Shape := ⟨3, ![16, 1024, 128]⟩
abbrev S1024x64 : Shape := ⟨2, ![1024, 64]⟩
abbrev S1x1024x64 : Shape := ⟨3, ![1, 1024, 64]⟩
abbrev S1024x128 : Shape := ⟨2, ![1024, 128]⟩
abbrev S1x1024x128 : Shape := ⟨3, ![1, 1024, 128]⟩
abbrev S16x256x64 : Shape := ⟨3, ![16, 256, 64]⟩
abbrev S256x1024 : Shape := ⟨2, ![256, 1024]⟩
abbrev S1x256x64 : Shape := ⟨3, ![1, 256, 64]⟩
abbrev S256x64 : Shape := ⟨2, ![256, 64]⟩
abbrev S1x4096x64 : Shape := ⟨3, ![1, 4096, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S1x4096x128 : Shape := ⟨3, ![1, 4096, 128]⟩
abbrev S4096x128 : Shape := ⟨2, ![4096, 128]⟩
abbrev S256x128 : Shape := ⟨2, ![256, 128]⟩

abbrev nBuf : Space → Nat
  | .hbm => 18
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S16x1024x64, .f32⟩
  | .hbm, ⟨2, _⟩ => ⟨S16x1024x64, .f32⟩
  | .hbm, ⟨3, _⟩ => ⟨S16x1024x64, .f32⟩
  | .hbm, ⟨4, _⟩ => ⟨S1024x1024, .f32⟩
  | .hbm, ⟨5, _⟩ => ⟨S1024x16x64, .f32⟩
  | .hbm, ⟨6, _⟩ => ⟨S1024x1024, .f32⟩
  | .hbm, ⟨7, _⟩ => ⟨S1024x16x64, .f32⟩
  | .hbm, ⟨8, _⟩ => ⟨S1024x1024, .f32⟩
  | .hbm, ⟨9, _⟩ => ⟨S1024x16x64, .f32⟩
  | .hbm, ⟨10, _⟩ => ⟨S1024x1024, .f32⟩
  | .hbm, ⟨11, _⟩ => ⟨S1024x3072, .f32⟩
  | .hbm, ⟨12, _⟩ => ⟨S1024x3072, .bf16⟩
  | .hbm, ⟨13, _⟩ => ⟨S1024x1024, .bf16⟩
  | .hbm, ⟨14, _⟩ => ⟨S16x4096x64, .bf16⟩
  | .hbm, ⟨15, _⟩ => ⟨S16x4096x64, .bf16⟩
  | .hbm, ⟨16, _⟩ => ⟨S16x4096x128, .bf16⟩
  | .hbm, ⟨17, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S16x1024x64, .bf16⟩
  | .local _ .vmem, ⟨4, _⟩ => ⟨S16x1024x64, .bf16⟩
  | .local _ .vmem, ⟨5, _⟩ => ⟨S16x1024x64, .bf16⟩
  | .local _ .vmem, ⟨6, _⟩ => ⟨S16x1024x64, .bf16⟩
  | .local _ .vmem, ⟨7, _⟩ => ⟨S16x1024x128, .bf16⟩
  | .local _ .vmem, ⟨8, _⟩ => ⟨S16x1024x128, .bf16⟩
  | .local _ .vmem, ⟨9, _⟩ => ⟨S16x256x64, .bf16⟩
  | .local _ .vmem, ⟨10, _⟩ => ⟨S16x256x64, .bf16⟩
  | .local _ .vmem, ⟨11, _⟩ => ⟨S16x4096x64, .bf16⟩
  | .local _ .vmem, ⟨12, _⟩ => ⟨S16x4096x128, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "c2" => some (((Real.log 256)⁻¹ : ℝ) : EReal)
  | _ => none
-- ==== ReferenceIdeal.lean ====
abbrev S4096x1024 : Shape := ⟨2, ![4096, 1024]⟩
abbrev S16x1024x64 : Shape := ⟨3, ![16, 1024, 64]⟩
abbrev S1024x1024 : Shape := ⟨2, ![1024, 1024]⟩
abbrev S16x64x4096 : Shape := ⟨3, ![16, 64, 4096]⟩
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S4096x16x64 : Shape := ⟨3, ![4096, 16, 64]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024x64, .f32⟩
  | .hbm, ⟨2, _⟩ => ⟨S16x1024x64, .f32⟩
  | .hbm, ⟨3, _⟩ => ⟨S16x1024x64, .f32⟩
  | .hbm, ⟨4, _⟩ => ⟨S1024x1024, .f32⟩
  | .hbm, ⟨5, _⟩ => ⟨S16x64x4096, .f32⟩
  | .hbm, ⟨6, _⟩ => ⟨S16x4096x64, .f32⟩
  | .hbm, ⟨7, _⟩ => ⟨S16x64x4096, .f32⟩
  | .hbm, ⟨8, _⟩ => ⟨S16x4096x64, .f32⟩
  | .hbm, ⟨9, _⟩ => ⟨S16x64x4096, .f32⟩
  | .hbm, ⟨10, _⟩ => ⟨S16x4096x64, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S_, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S16x4096x1, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S16x4096x64, .f32⟩
  | .hbm, ⟨30, _⟩ => ⟨S4096x16x64, .f32⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Softmax.lean ====
/- One row of softmax attention over the extended reals, in the two forms that the programs compute. No program is named
   here: a row is a family of scores `s`, the values are a family `v`. -/
module

public import Idealize.ShloMosaic.PureOps.Ideal
public import Mathlib.Analysis.SpecialFunctions.Pow.Real

@[expose] public section

noncomputable section

namespace Cert.Attention

open Idealize.ShloMosaic

variable {n : ℕ}

/-- The greatest entry of a finite family, folded from `⊥`. -/
def rowMax (s : Fin n → EReal) : EReal := Finset.univ.fold max ⊥ s

/-- A row's unnormalised weight as the kernel takes it: two to the power of the distance to the maximum, scaled by `1 / log 256`. -/
def weight (s : Fin n → EReal) (t : Fin n) : EReal :=
  Ideal.exp2 ((s t - rowMax s) * (((Real.log 256)⁻¹ : ℝ) : EReal))

/-- The kernel's row: the weighted sum of `v` over the weighted sum of `w`, the latter being a family of ones. -/
def quotientOfSums (s v w : Fin n → EReal) : EReal :=
  Ideal.div (∑ t, weight s t * v t) (∑ t, weight s t * w t)

/-- The reference's row: the weighted sum of `v`, each weight normalised before the sum is taken. -/
def sumOfQuotients (s v : Fin n → EReal) : EReal :=
  ∑ t, Ideal.div (Ideal.exp (s t - rowMax s)) (∑ u, Ideal.exp (s u - rowMax s)) * v t

/-- The greatest entry is the entry that no other exceeds. -/
theorem rowMax_eq (s : Fin n → EReal) (a : Fin n) (ha : ∀ t, s t ≤ s a) : rowMax s = s a := by
  apply le_antisymm
  · exact (Finset.fold_max_le (s a)).2 ⟨bot_le, fun t _ => ha t⟩
  · exact (Finset.le_fold_max (s a)).2 (Or.inr ⟨a, Finset.mem_univ a, le_rfl⟩)

/-- A finite sum of reals, taken in the extended reals, is that sum. -/
theorem coe_sum (f : Fin n → ℝ) : ∑ t, ((f t : ℝ) : EReal) = ((∑ t, f t : ℝ) : EReal) := by
  induction (Finset.univ : Finset (Fin n)) using Finset.induction_on with
  | empty => simp
  | insert a S ha ih => rw [Finset.sum_insert ha, Finset.sum_insert ha, ih, EReal.coe_add]

/-- A nonnegative real factor distributes over a sum of extended reals, infinite terms included. -/
theorem sum_mul_coe (f : Fin n → EReal) (r : ℝ) (hr : 0 ≤ r) : (∑ t, f t) * (r : EReal) = ∑ t, f t * (r : EReal) := by
  induction (Finset.univ : Finset (Fin n)) using Finset.induction_on with
  | empty => simp
  | insert a S ha ih =>
    rw [Finset.sum_insert ha, Finset.sum_insert ha, ← ih, mul_comm, EReal.left_distrib_of_nonneg_of_ne_top
      (EReal.coe_nonneg.2 hr) (EReal.coe_ne_top r), mul_comm (r : EReal), mul_comm (r : EReal)]

/-- `2 ^ (y / log 256) = exp (y / 8)`. -/
theorem two_rpow_mul_inv_log (y : ℝ) : Real.rpow 2 (y * (Real.log 256)⁻¹) = Real.exp (y * 8⁻¹) := by
  have h2 : Real.log 2 ≠ 0 := (Real.log_pos (by norm_num)).ne'
  have h : Real.log 256 = 8 * Real.log 2 := by
    rw [show (256 : ℝ) = 2 ^ 8 by norm_num, Real.log_pow]; norm_num
  show (2 : ℝ) ^ (y * (Real.log 256)⁻¹) = _
  rw [Real.rpow_def_of_pos (by norm_num), h]
  congr 1
  field_simp

/-- For real scores the two rows agree: the kernel scales by `1/8` inside the exponential (`1 / log 256` in base two) and
    divides once, the reference scales the scores by `1/8` and divides every weight. The values may be infinite. -/
theorem quotientOfSums_eq [NeZero n] (s v : Fin n → EReal) (hs : ∀ t, ∃ r : ℝ, s t = r) :
    quotientOfSums s v (fun _ => 1) = sumOfQuotients (fun t => s t * ((8⁻¹ : ℝ) : EReal)) v := by
  choose σ hσ using hs
  obtain ⟨a, -, ha⟩ := Finset.exists_max_image (Finset.univ : Finset (Fin n)) σ ⟨0, Finset.mem_univ _⟩
  have hmax : rowMax s = (σ a : EReal) := by
    rw [rowMax_eq s a fun t => by rw [hσ t, hσ a]; exact_mod_cast ha t (Finset.mem_univ t), hσ a]
  have hmax' : rowMax (fun t => s t * ((8⁻¹ : ℝ) : EReal)) = ((σ a * 8⁻¹ : ℝ) : EReal) := by
    rw [rowMax_eq _ a fun t => by
      show s t * _ ≤ s a * _
      rw [hσ t, hσ a, ← EReal.coe_mul, ← EReal.coe_mul, EReal.coe_le_coe_iff]
      exact mul_le_mul_of_nonneg_right (ha t (Finset.mem_univ t)) (by norm_num)]
    show s a * _ = _
    rw [hσ a, ← EReal.coe_mul]
  have hw : ∀ t, weight s t = ((Real.exp ((σ t - σ a) * 8⁻¹) : ℝ) : EReal) := fun t => by
    rw [weight, hmax, hσ t, ← EReal.coe_sub, ← EReal.coe_mul, Ideal.exp2_coe, two_rpow_mul_inv_log]
  have he : ∀ t, Ideal.exp (s t * ((8⁻¹ : ℝ) : EReal) - rowMax (fun u => s u * ((8⁻¹ : ℝ) : EReal)))
      = ((Real.exp ((σ t - σ a) * 8⁻¹) : ℝ) : EReal) := fun t => by
    rw [hmax', hσ t, ← EReal.coe_mul, ← EReal.coe_sub, Ideal.exp_coe, sub_mul]
  have hpos : 0 < ∑ t, Real.exp ((σ t - σ a) * 8⁻¹) := Finset.sum_pos (fun t _ => Real.exp_pos _) ⟨0, Finset.mem_univ _⟩
  unfold quotientOfSums sumOfQuotients
  simp only [hw, he, mul_one, coe_sum, Ideal.div_coe hpos.ne']
  rw [sum_mul_coe _ _ (one_div_nonneg.2 hpos.le)]
  exact Finset.sum_congr rfl fun t _ => mul_right_comm _ _ _

/-- Without real scores the two rows differ: where some score is `⊤` every weight is `0`, and with all values `0` the
    kernel's row is `0 / 0 = ⊥` while the reference's is `0`. -/
theorem quotientOfSums_ne : quotientOfSums (n := 1) (fun _ => ⊤) (fun _ => 0) (fun _ => 1)
    ≠ sumOfQuotients (n := 1) (fun _ => ⊤ * ((8⁻¹ : ℝ) : EReal)) (fun _ => 0) := by
  have hm : rowMax (n := 1) (fun _ => (⊤ : EReal)) = ⊤ := rowMax_eq _ 0 fun _ => le_rfl
  have hz : (⊤ : EReal) * (((Real.log 256)⁻¹ : ℝ) : EReal) = ⊤ :=
    EReal.top_mul_of_pos (EReal.coe_pos.2 (inv_pos.2 (Real.log_pos (by norm_num))))
  have hb : (⊥ : EReal) * (((Real.log 256)⁻¹ : ℝ) : EReal) = ⊥ :=
    EReal.bot_mul_of_pos (EReal.coe_pos.2 (inv_pos.2 (Real.log_pos (by norm_num))))
  simp [quotientOfSums, sumOfQuotients, weight, hm, hb, Ideal.div, sub_eq_add_neg]

end Cert.Attention

end
-- ==== Proof.Attend.lean ====
/- What one grid step of the attention region computes: the value of every head, and the output block, at an index. -/
module

public import proofs.«01_k».proof.Proof.Gen.KernelIdeal.Frame
public import Idealize.ShloMosaic.Lib.Pointwise
public import Idealize.ShloMosaic.Lib.Pipeline.ValueKit.Tiles
public import proofs.«01_k».proof.Proof.Softmax

@[expose] public section

noncomputable section

namespace Cert.Attention

open Idealize.ShloMosaic Cert.KernelIdeal Cert.KernelIdeal.Gen

/-- The named constant of the kernel is `1 / log 256` over the extended reals. -/
theorem named_c2 : (Named.named κ "c2" (0x3E38AA3B#32 : BitVec FTy.f32.bits) : Ideal .f32) = (((Real.log 256)⁻¹ : ℝ) : EReal) :=
  IdealRules.named_const.ideal_named_scalar _ _ _ _ rfl

/-- The initial value of a row maximum is the least extended real. -/
theorem ofBits_negInf : Ideal.ofBits .f32 0xFF800000#32 = ⊥ := by simp [Ideal.ofBits, Ideal.ieee]

/-- A value column, read as one of the 128 columns of the extended values. -/
abbrev wide (c : Fin 64) : Fin 128 := ⟨c.val, by omega⟩

/-- The first head's payload, at an index: the row's quotient of sums, over the scores of that query row. -/
theorem pay1_apply (q : Vec Ideal S1x256x64 .bf16) (k : Vec Ideal S1x4096x64 .bf16) (v : Vec Ideal S1x4096x128 .bf16)
    (r : Fin 256) (c : Fin 64) :
    k1_pay1 q k v (ix2 r c)
      = quotientOfSums (fun t : Fin 4096 => ∑ d : Fin 64, q (ix3 0 r d) * k (ix3 0 t d))
          (fun t => v (ix3 0 t (wide c))) (fun t => v (ix3 0 t 64)) := by
  pointwise [k1_pay1]
  rw [named_c2, ofBits_negInf]
  rfl

/-- The rows of head `h` among the loaded queries. -/
abbrev qRect (h : Fin 16) : Rect S16x256x64 :=
  Rect.unit (s := S16x256x64) ![h.val, 0, 0] S1x256x64.size (by intro a; fin_cases a <;> simp [S1x256x64, S16x256x64] <;> omega)

/-- The rows of head `h` among the keys. -/
abbrev kRect (h : Fin 16) : Rect S16x4096x64 :=
  Rect.unit (s := S16x4096x64) ![h.val, 0, 0] S1x4096x64.size (by intro a; fin_cases a <;> simp [S1x4096x64, S16x4096x64] <;> omega)

/-- The rows of head `h` among the extended values. -/
abbrev vRect (h : Fin 16) : Rect S16x4096x128 :=
  Rect.unit (s := S16x4096x128) ![h.val, 0, 0] S1x4096x128.size (by intro a; fin_cases a <;> simp [S1x4096x128, S16x4096x128] <;> omega)

/-- Head `h` of the block: the first head's payload, on that head's rows. -/
def headBlock (x0 : Vec Ideal S16x256x64 .bf16) (x1 : Vec Ideal S16x4096x64 .bf16) (x2 : Vec Ideal S16x4096x128 .bf16)
    (h : Fin 16) : FVec Ideal S256x64 .f32 :=
  k1_pay1 (View.ld x0 (qRect h)) (View.ld x1 (kRect h)) (View.ld x2 (vRect h))

/-- Head `h` of the block, at an index. -/
theorem headBlock_apply (x0 : Vec Ideal S16x256x64 .bf16) (x1 : Vec Ideal S16x4096x64 .bf16) (x2 : Vec Ideal S16x4096x128 .bf16)
    (h : Fin 16) (r : Fin 256) (c : Fin 64) :
    headBlock x0 x1 x2 h (ix2 r c)
      = quotientOfSums (fun t : Fin 4096 => ∑ d : Fin 64, x0 (ix3 h r d) * x1 (ix3 h t d))
          (fun t => x2 (ix3 h t (wide c))) (fun t => x2 (ix3 h t 64)) := by
  have hq (d : Fin 64) : View.ld x0 (qRect h) (ix3 0 r d) = x0 (ix3 h r d) :=
    View.ld_unit_apply_of _ _ _ _ _ _ (by intro a; fin_cases a <;> simp)
  have hk (t : Fin 4096) (d : Fin 64) : View.ld x1 (kRect h) (ix3 0 t d) = x1 (ix3 h t d) :=
    View.ld_unit_apply_of _ _ _ _ _ _ (by intro a; fin_cases a <;> simp)
  have hv (t : Fin 4096) (d : Fin 128) : View.ld x2 (vRect h) (ix3 0 t d) = x2 (ix3 h t d) :=
    View.ld_unit_apply_of _ _ _ _ _ _ (by intro a; fin_cases a <;> simp)
  rw [headBlock, pay1_apply]
  simp only [hq, hk, hv]

/-- Sixteen head blocks side by side. -/
def sideBySide (f : Fin 16 → FVec Ideal S256x64 .f32) : FVec Ideal S256x1024 .f32 :=
  concatenate S256x1024 1 (List.ofFn fun h : Fin 16 => (⟨S256x64, f h⟩ : (s : Shape) × (s.Idx → Ideal .f32)))
    concatenates_S256x64_S256x64_S256x64_S256x64_S256x64_S256x64_S256x64_S256x64_S256x64_S256x64_S256x64_S256x64_S256x64_S256x64_S256x64_S256x64_S256x1024_d1

/-- The head that column `j` of the side-by-side blocks belongs to. -/
abbrev headOf (j : Fin 1024) : Fin 16 := ⟨j.val / 64, by omega⟩

/-- The column within its head that column `j` of the side-by-side blocks is. -/
abbrev colOf (j : Fin 1024) : Fin 64 := ⟨j.val % 64, by omega⟩

/-- The side-by-side blocks, at an index: the head of that column, at the column within it. -/
theorem sideBySide_apply (f : Fin 16 → FVec Ideal S256x64 .f32) (r : Fin 256) (j : Fin 1024) :
    sideBySide f (ix2 r j) = f (headOf j) (ix2 r (colOf j)) :=
  concatenate_ofFn_apply (t := S256x1024) 1 f _ rfl 64 rfl (ix2 r j) (headOf j) rfl (ix2 r (colOf j)) rfl
    (by
      intro b hb
      fin_cases b
      · rfl
      · exact absurd rfl hb)

/-- Sixteen head blocks side by side, times the output weights. -/
def project (f : Fin 16 → FVec Ideal S256x64 .f32) (w : FVec Ideal S1024x1024 .bf16) : FVec Ideal S256x1024 .f32 :=
  matmul (φ₁ := .bf16) dot_S256x1024_S1024x1024_S256x1024_1_0_0_1_n_n none
    (truncf .bf16 (sideBySide f) bitsLt_bf16_f32) w (constant S256x1024 .f32 0x00000000#32)

/-- The projected block, at an index. -/
theorem project_apply (f : Fin 16 → FVec Ideal S256x64 .f32) (w : FVec Ideal S1024x1024 .bf16) (r : Fin 256) (n : Fin 1024) :
    project f w (ix2 r n) = ∑ j : Fin 1024, f (headOf j) (ix2 r (colOf j)) * w (ix2 j n) := by
  pointwise [project]
  simp only [sideBySide_apply]

/-- The output block of a grid step: the heads of that step, projected. -/
theorem out_eq (x0 : Vec Ideal S16x256x64 .bf16) (x1 : Vec Ideal S16x4096x64 .bf16) (x2 : Vec Ideal S16x4096x128 .bf16)
    (x3 : Vec Ideal S1024x1024 .bf16) : out1_4 x0 x1 x2 x3 = project (headBlock x0 x1 x2) x3 := by
  rw [out1_4, View.canon_unit_zero (by decide), View.ld_unit_zero (by decide), k1_pay23, shapeCast_self]
  rfl

/-- The output block of a grid step, at an index. -/
theorem out_apply (x0 : Vec Ideal S16x256x64 .bf16) (x1 : Vec Ideal S16x4096x64 .bf16) (x2 : Vec Ideal S16x4096x128 .bf16)
    (x3 : Vec Ideal S1024x1024 .bf16) (r : Fin 256) (n : Fin 1024) :
    out1_4 x0 x1 x2 x3 (ix2 r n)
      = ∑ j : Fin 1024, quotientOfSums (fun t : Fin 4096 => ∑ d : Fin 64, x0 (ix3 (headOf j) r d) * x1 (ix3 (headOf j) t d))
          (fun t => x2 (ix3 (headOf j) t (wide (colOf j)))) (fun t => x2 (ix3 (headOf j) t 64)) * x3 (ix2 j n) := by
  rw [out_eq, project_apply]
  simp only [headBlock_apply]

end Cert.Attention

end
-- ==== Proof.Project.lean ====
/- What one grid step of the projection region computes: the queries, the keys and the extended values of the step's rows,
   at an index. The three buffers are stored one head at a time; every fact is stated once, for an arbitrary head. -/
module

public import proofs.«01_k».proof.Proof.Gen.KernelIdeal.Frame
public import Idealize.ShloMosaic.Lib.Pointwise
public import Idealize.ShloMosaic.Lib.Pipeline.ValueKit.Tiles
public import proofs.«01_k».proof.Proof.Attend

@[expose] public section

noncomputable section

namespace Cert.Attention

open Idealize.ShloMosaic Cert.KernelIdeal Cert.KernelIdeal.Gen

/-- The rows of one head in a buffer of sixteen heads, 1024 rows and `W` columns. -/
abbrev slab (W : ℕ) (h : Fin 16) : Rect (⟨3, ![16, 1024, W]⟩ : Shape) :=
  Rect.unit (s := ⟨3, ![16, 1024, W]⟩) ![h.val, 0, 0] (⟨3, ![1, 1024, W]⟩ : Shape).size
    (by intro a; fin_cases a <;> simp <;> omega)

/-- The stores that fill such a buffer, the last head's first. -/
abbrev slabs (W : ℕ) (f : Fin 16 → (⟨3, ![1, 1024, W]⟩ : Shape).Idx → Ideal .bf16) :
    List (View.Piece (Elt Ideal) (⟨3, ![16, 1024, W]⟩ : Shape) .bf16) :=
  List.ofFn fun g : Fin 16 => ⟨slab W g.rev, f g.rev⟩

/-- A buffer filled head by head reads, at head `h`, what was stored for that head. -/
theorem canon_slabs (W : ℕ) (f : Fin 16 → (⟨3, ![1, 1024, W]⟩ : Shape).Idx → Ideal .bf16) (h : Fin 16) (r : Fin 1024)
    (c : Fin W) : View.canon (slabs W f) (ix3 h r c) = f h (ix3 0 r c) := by
  have hidx (g : Fin 16) (x : (⟨3, ![1, 1024, W]⟩ : Shape).Idx) :
      (slab W g).emb x = ix3 g (x 1) (x 2) := by
    funext a
    apply Fin.ext
    refine (Rect.idx_unit_val _ _ _ x a).trans ?_
    have h0 : (x 0).val = 0 := Nat.lt_one_iff.mp (x 0).isLt
    fin_cases a <;> simp [h0]
  let G : (⟨3, ![16, 1024, W]⟩ : Shape).Idx → Elt Ideal .bf16 := fun y => f (y 0) (ix3 0 (y 1) (y 2))
  refine View.canon_apply_of_pieces G (slabs W f) ?_ (ix3 h r c) ?_
  · intro p hp x
    obtain ⟨g, rfl⟩ := (List.mem_ofFn' _ _).1 hp
    show f g.rev x = G ((slab W g.rev).emb x)
    rw [hidx]
    refine congrArg (f g.rev) ?_
    funext a
    apply Fin.ext
    have h0 : (x 0).val = 0 := Nat.lt_one_iff.mp (x 0).isLt
    fin_cases a
    · exact h0
    · rfl
    · rfl
  · refine ⟨_, (List.mem_ofFn' _ _).2 ⟨h.rev, rfl⟩, ?_⟩
    have he : (slab W h).emb (ix3 0 r c) = ix3 h r c := hidx h (ix3 0 r c)
    show _ ∈ (slab W h.rev.rev).set
    rw [Fin.rev_rev, ← he]
    exact LoadRect.idx_mem _ _

/-- The step's rows times all the weights, at an index. -/
theorem pay57_apply (x : Vec Ideal S1024x1024 .f32) (w : Vec Ideal S1024x3072 .bf16) (i : Fin 1024) (n : Fin 3072) :
    k0_pay57 x w (ix2 i n) = ∑ d : Fin 1024, x (ix2 i d) * w (ix2 d n) := by
  rw [k0_pay57, View.ld_unit_zero (by decide), View.ld_unit_zero (by decide)]
  pointwise [k0_pay7]

/-- The column that offset `off` and a head's column `c` name. -/
abbrev colAt (off : ℕ) (hoff : off + 64 ≤ 3072) (c : Fin 64) : Fin 3072 := ⟨off + c.val, by omega⟩

/-- The 64 columns of `r` from column `off` on, as one head's rows. -/
def cut (r : FVec Ideal S1024x3072 .f32) (off : ℕ) (hs : S1024x3072.Slices ![0, off] S1024x64) : FVec Ideal S1x1024x64 .bf16 :=
  shapeCast S1x1024x64 (truncf .bf16 (extractStridedSlice S1024x64 ![0, off] r hs) bitsLt_bf16_f32) shapeCasts_S1024x64_S1x1024x64

/-- Sixty-four columns cut from an array, at an index. -/
theorem cut_apply (r : FVec Ideal S1024x3072 .f32) (off : ℕ) (hs) (hoff : off + 64 ≤ 3072) (i : Fin 1024) (c : Fin 64) :
    cut r off hs (ix3 0 i c) = r (ix2 i (colAt off hoff c)) := by
  pointwise [cut]

/-- The same columns, beside a column of ones and 63 columns of zeros. -/
def cutOnes (r : FVec Ideal S1024x3072 .f32) (off : ℕ) (hs : S1024x3072.Slices ![0, off] S1024x64) : FVec Ideal S1x1024x128 .bf16 :=
  shapeCast S1x1024x128 (concatenate S1024x128 1 [⟨S1024x64, truncf .bf16 (extractStridedSlice S1024x64 ![0, off] r hs) bitsLt_bf16_f32⟩,
    ⟨S1024x64, k0_pay8 (F := Ideal)⟩] concatenates_S1024x64_S1024x64_S1024x128_d1) shapeCasts_S1024x128_S1x1024x128

/-- The cut columns with a column of ones beside them, at an index of the first half. -/
theorem cutOnes_apply (r : FVec Ideal S1024x3072 .f32) (off : ℕ) (hs) (hoff : off + 64 ≤ 3072) (i : Fin 1024) (c : Fin 64) :
    cutOnes r off hs (ix3 0 i (wide c)) = r (ix2 i (colAt off hoff c)) := by
  pointwise [cutOnes]

/-- The first column of the second half is the column of ones. -/
theorem cutOnes_one (r : FVec Ideal S1024x3072 .f32) (off : ℕ) (hs) (i : Fin 1024) :
    cutOnes r off hs (ix3 0 i 64) = 1 := by
  pointwise [cutOnes, k0_pay8]

/-- The offset of a head's columns, `base` columns in, stays within the 3072 columns. -/
theorem slices_head (base : ℕ) (hb : base ≤ 2048) (h : Fin 16) : S1024x3072.Slices ![0, base + 64 * h.val] S1024x64 :=
  ⟨rfl, by intro a; fin_cases a <;> simp [S1024x3072, S1024x64] <;> omega⟩

/-- The column of head `h` and column `c`, `base` columns in. -/
abbrev headCol (base : ℕ) (hb : base ≤ 2048) (h : Fin 16) (c : Fin 64) : Fin 3072 := ⟨base + 64 * h.val + c.val, by omega⟩

/-- The queries of a grid step are the columns from 0 on, cut by head. -/
theorem out0_2_eq (x : Vec Ideal S1024x1024 .f32) (w : Vec Ideal S1024x3072 .bf16) :
    out0_2 x w = View.canon (slabs 64 fun h => cut (k0_pay57 x w) (0 + 64 * h.val) (slices_head 0 (by omega) h)) := rfl

/-- The keys of a grid step are the columns from 1024 on, cut by head. -/
theorem out0_3_eq (x : Vec Ideal S1024x1024 .f32) (w : Vec Ideal S1024x3072 .bf16) :
    out0_3 x w = View.canon (slabs 64 fun h => cut (k0_pay57 x w) (1024 + 64 * h.val) (slices_head 1024 (by omega) h)) := rfl

/-- The extended values of a grid step are the columns from 2048 on, cut by head, beside the ones. -/
theorem out0_4_eq (x : Vec Ideal S1024x1024 .f32) (w : Vec Ideal S1024x3072 .bf16) :
    out0_4 x w = View.canon (slabs 128 fun h => cutOnes (k0_pay57 x w) (2048 + 64 * h.val) (slices_head 2048 (by omega) h)) := rfl

/-- The queries of a grid step, at an index. -/
theorem out0_2_apply (x : Vec Ideal S1024x1024 .f32) (w : Vec Ideal S1024x3072 .bf16) (h : Fin 16) (i : Fin 1024) (c : Fin 64) :
    out0_2 x w (ix3 h i c) = ∑ d : Fin 1024, x (ix2 i d) * w (ix2 d (headCol 0 (by omega) h c)) := by
  rw [out0_2_eq, canon_slabs, cut_apply _ _ _ (by omega), pay57_apply]

/-- The keys of a grid step, at an index. -/
theorem out0_3_apply (x : Vec Ideal S1024x1024 .f32) (w : Vec Ideal S1024x3072 .bf16) (h : Fin 16) (i : Fin 1024) (c : Fin 64) :
    out0_3 x w (ix3 h i c) = ∑ d : Fin 1024, x (ix2 i d) * w (ix2 d (headCol 1024 (by omega) h c)) := by
  rw [out0_3_eq, canon_slabs, cut_apply _ _ _ (by omega), pay57_apply]

/-- The values of a grid step, at an index of the first 64 columns. -/
theorem out0_4_apply (x : Vec Ideal S1024x1024 .f32) (w : Vec Ideal S1024x3072 .bf16) (h : Fin 16) (i : Fin 1024) (c : Fin 64) :
    out0_4 x w (ix3 h i (wide c)) = ∑ d : Fin 1024, x (ix2 i d) * w (ix2 d (headCol 2048 (by omega) h c)) := by
  rw [out0_4_eq, canon_slabs, cutOnes_apply _ _ _ (by omega), pay57_apply]

/-- The extended values hold a one in column 64. -/
theorem out0_4_one (x : Vec Ideal S1024x1024 .f32) (w : Vec Ideal S1024x3072 .bf16) (h : Fin 16) (i : Fin 1024) :
    out0_4 x w (ix3 h i 64) = 1 := by
  rw [out0_4_eq, canon_slabs, cutOnes_one]

end Cert.Attention

end
-- ==== Proof.Arrays.lean ====
/- What each region leaves in its output arrays, as a function of the arrays that it finds: the blocks that the grid steps
   write tile the arrays. -/
module

public import proofs.«01_k».proof.Proof.Attend
public import proofs.«01_k».proof.Proof.Project
public import Idealize.ShloMosaic.Lib.Pipeline.Value

@[expose] public section

noncomputable section

namespace Cert.Attention

open Idealize.ShloMosaic Idealize.ShloMosaic.TcCoe Cert.KernelIdeal Cert.KernelIdeal.Gen Idealize.SL.Sem
open Idealize.ShloMosaic.Pipeline (Dat)

/-- The contents of a device's buffers when a region is entered. -/
abbrev Entry := (c : Dev nD) → (b : Ref sig .tc) → Buf (Elt Ideal) ((c : Thread nD τ).loc b)

variable (V : Entry) (c : Dev nD)

/-- An index equal to a member is a member. -/
theorem mem_of_eq {α : Type*} {S : Finset α} {a b : α} (h : a = b) (ha : a ∈ S) : b ∈ S := h ▸ ha

/-! ## The projection region -/

/-- Row `i` of the block of grid step `t`. -/
abbrev rowAt (t : Fin 4) (i : Fin 1024) : Fin 4096 := ⟨t.val * 1024 + i.val, by omega⟩

/-- Where the blocks of the projection region begin, in units of blocks. -/
theorem index0 : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0) := by decide +kernel

/-- The inputs, as the projection region finds them. -/
abbrev xArr : Vec Ideal S4096x1024 .f32 := V c main_arg0
/-- The stacked projection weights, as the projection region finds them. -/
abbrev wArr : Vec Ideal S1024x3072 .bf16 := V c main_v7

/-- The block of 1024 rows of `x` that grid step `t` reads. -/
def rows (x : Vec Ideal S4096x1024 .f32) (t : Fin 4) : Vec Ideal S1024x1024 .f32 := fun j => x (ix2 (rowAt t (j 0)) (j 1))

/-- A grid step of the projection reads its block of rows of the inputs. -/
theorem iblk0_0_eq (t : Fin cfg0.N) : iblk0 V c 0 t = rows (xArr V c) t := by
  funext x
  refine congrArg (V c main_arg0) (funext fun a => Fin.ext ?_)
  obtain ⟨⟨h0, h1⟩, -⟩ := index0 t
  match a with
  | ⟨0, _⟩ =>
    show win0_0.index t 0 * 1024 + 1 * (x 0).val = t.val * 1024 + (x 0).val
    rw [h0, one_mul]
  | ⟨1, _⟩ =>
    show win0_0.index t 1 * 1024 + 1 * (x 1).val = (x 1).val
    rw [h1]; omega

/-- Every grid step of the projection reads the whole of the stacked weights. -/
theorem iblk0_1_eq (t : Fin cfg0.N) : iblk0 V c 1 t = wArr V c := by
  funext x
  refine congrArg (V c main_v7) (funext fun a => Fin.ext ?_)
  obtain ⟨-, ⟨h0, h1⟩, -⟩ := index0 t
  match a with
  | ⟨0, _⟩ =>
    show win0_1.index t 0 * 1024 + 1 * (x 0).val = (x 0).val
    rw [h0]; omega
  | ⟨1, _⟩ =>
    show win0_1.index t 1 * 3072 + 1 * (x 1).val = (x 1).val
    rw [h1]; omega

/-- The grid step that computes row `s`. -/
abbrev stepOf (s : Fin 4096) : Fin 4 := ⟨s.val / 1024, by omega⟩

/-- Row `s` within its block. -/
abbrev inStep (s : Fin 4096) : Fin 1024 := ⟨s.val % 1024, by omega⟩

/-- The queries that a grid step of the projection writes back. -/
theorem flushed0_2 (t : Fin cfg0.N) : (dat0 V c).flushed 2 t = out0_2 (rows (xArr V c) t) (wArr V c) :=
  (after0_2 V c t).trans (congrArg₂ out0_2 (iblk0_0_eq V c t) (iblk0_1_eq V c t))

/-- The keys that a grid step of the projection writes back. -/
theorem flushed0_3 (t : Fin cfg0.N) : (dat0 V c).flushed 3 t = out0_3 (rows (xArr V c) t) (wArr V c) :=
  (after0_3 V c t).trans (congrArg₂ out0_3 (iblk0_0_eq V c t) (iblk0_1_eq V c t))

/-- The extended values that a grid step of the projection writes back. -/
theorem flushed0_4 (t : Fin cfg0.N) : (dat0 V c).flushed 4 t = out0_4 (rows (xArr V c) t) (wArr V c) :=
  (after0_4 V c t).trans (congrArg₂ out0_4 (iblk0_0_eq V c t) (iblk0_1_eq V c t))

/-- An array of sixteen heads, put together from the blocks of 1024 rows that `f` gives. -/
def stack (W : ℕ) (f : Fin 4 → (⟨3, ![16, 1024, W]⟩ : Shape).Idx → Ideal .bf16) : (⟨3, ![16, 4096, W]⟩ : Shape).Idx → Ideal .bf16 :=
  fun y => f (stepOf (y 1)) (ix3 (y 0) (inStep (y 1)) (y 2))

/-- The array put together, at an index. -/
theorem stack_apply (W : ℕ) (f : Fin 4 → (⟨3, ![16, 1024, W]⟩ : Shape).Idx → Ideal .bf16) (h : Fin 16) (s : Fin 4096) (k : Fin W) :
    stack W f (ix3 h s k) = f (stepOf s) (ix3 h (inStep s) k) := rfl

/-- The array put together, at a row of block `t`, is that block. -/
theorem stack_rowAt (W : ℕ) (f : Fin 4 → (⟨3, ![16, 1024, W]⟩ : Shape).Idx → Ideal .bf16) (t : Fin 4) (x : (⟨3, ![16, 1024, W]⟩ : Shape).Idx) :
    stack W f (ix3 (x 0) (rowAt t (x 1)) (x 2)) = f t x := by
  have hlt : (x 1).val < 1024 := (x 1).isLt
  have h1 : stepOf (rowAt t (x 1)) = t := Fin.ext (by show (t.val * 1024 + (x 1).val) / 1024 = t.val; omega)
  have h2 : inStep (rowAt t (x 1)) = x 1 := Fin.ext (by show (t.val * 1024 + (x 1).val) % 1024 = (x 1).val; omega)
  show f (stepOf (rowAt t (x 1))) (ix3 (x 0) (inStep (rowAt t (x 1))) (x 2)) = f t x
  rw [h1, h2]
  exact congrArg (f t) (eq_ix3 x).symm

/-- Every row of the array put together is a row of a block. -/
theorem eq_rowAt (W : ℕ) (y : (⟨3, ![16, 4096, W]⟩ : Shape).Idx) :
    ix3 (y 0) (rowAt (stepOf (y 1)) (inStep (y 1))) (y 2) = y := by
  have h : rowAt (stepOf (y 1)) (inStep (y 1)) = y 1 :=
    Fin.ext (by show (y 1).val / 1024 * 1024 + (y 1).val % 1024 = (y 1).val; omega)
  rw [h]
  exact (eq_ix3 y).symm

/-- Where an element of the block of window 2 lies in its array. -/
theorem emb0_2 (t : Fin cfg0.N) (x : S16x1024x64.Idx) :
    ((cfg0.win 2).blk t).view.emb x = (ix3 (x 0) (rowAt t (x 1)) (x 2) : S16x4096x64.Idx) := by
  obtain ⟨-, -, ⟨h0, h1, h2⟩, -⟩ := index0 t
  funext a
  apply Fin.ext
  match a with
  | ⟨0, _⟩ =>
    show win0_2.index t 0 * 16 + 1 * (x 0).val = (x 0).val
    rw [h0]; omega
  | ⟨1, _⟩ =>
    show win0_2.index t 1 * 1024 + 1 * (x 1).val = t.val * 1024 + (x 1).val
    rw [h1, one_mul]
  | ⟨2, _⟩ =>
    show win0_2.index t 2 * 64 + 1 * (x 2).val = (x 2).val
    rw [h2]; omega

/-- Where an element of the block of window 3 lies in its array. -/
theorem emb0_3 (t : Fin cfg0.N) (x : S16x1024x64.Idx) :
    ((cfg0.win 3).blk t).view.emb x = (ix3 (x 0) (rowAt t (x 1)) (x 2) : S16x4096x64.Idx) := by
  obtain ⟨-, -, -, ⟨h0, h1, h2⟩, -⟩ := index0 t
  funext a
  apply Fin.ext
  match a with
  | ⟨0, _⟩ =>
    show win0_3.index t 0 * 16 + 1 * (x 0).val = (x 0).val
    rw [h0]; omega
  | ⟨1, _⟩ =>
    show win0_3.index t 1 * 1024 + 1 * (x 1).val = t.val * 1024 + (x 1).val
    rw [h1, one_mul]
  | ⟨2, _⟩ =>
    show win0_3.index t 2 * 64 + 1 * (x 2).val = (x 2).val
    rw [h2]; omega

/-- Where an element of the block of window 4 lies in its array. -/
theorem emb0_4 (t : Fin cfg0.N) (x : S16x1024x128.Idx) :
    ((cfg0.win 4).blk t).view.emb x = (ix3 (x 0) (rowAt t (x 1)) (x 2) : S16x4096x128.Idx) := by
  obtain ⟨-, -, -, -, h0, h1, h2⟩ := index0 t
  funext a
  apply Fin.ext
  match a with
  | ⟨0, _⟩ =>
    show win0_4.index t 0 * 16 + 1 * (x 0).val = (x 0).val
    rw [h0]; omega
  | ⟨1, _⟩ =>
    show win0_4.index t 1 * 1024 + 1 * (x 1).val = t.val * 1024 + (x 1).val
    rw [h1, one_mul]
  | ⟨2, _⟩ =>
    show win0_4.index t 2 * 128 + 1 * (x 2).val = (x 2).val
    rw [h2]; omega

/-- If step `t` writes back `f t` through window 2, the window's array ends as those blocks put together. -/
theorem arr0_2_of (f : Fin 4 → Vec Ideal S16x1024x64 .bf16) (hf : ∀ t : Fin cfg0.N, (dat0 V c).flushed 2 t = f t) :
    (dat0 V c).arrAt 2 cfg0.N = stack 64 f := by
  refine (dat0 V c).arrAt_eq_of_cover 2 (stack 64 f) (fun t _ => ?_) (fun y => ?_)
  · rw [hf]
    funext x
    refine Eq.trans ?_ (congrArg (stack 64 f) (emb0_2 t x)).symm
    exact (stack_rowAt 64 f t x).symm
  · refine ⟨stepOf (y 1), flush0_2 _, ?_⟩
    exact mem_of_eq ((emb0_2 (stepOf (y 1)) (ix3 (y 0) (inStep (y 1)) (y 2))).trans (eq_rowAt 64 y)) (View.emb_mem_set _ _)

/-- If step `t` writes back `f t` through window 3, the window's array ends as those blocks put together. -/
theorem arr0_3_of (f : Fin 4 → Vec Ideal S16x1024x64 .bf16) (hf : ∀ t : Fin cfg0.N, (dat0 V c).flushed 3 t = f t) :
    (dat0 V c).arrAt 3 cfg0.N = stack 64 f := by
  refine (dat0 V c).arrAt_eq_of_cover 3 (stack 64 f) (fun t _ => ?_) (fun y => ?_)
  · rw [hf]
    funext x
    refine Eq.trans ?_ (congrArg (stack 64 f) (emb0_3 t x)).symm
    exact (stack_rowAt 64 f t x).symm
  · refine ⟨stepOf (y 1), flush0_3 _, ?_⟩
    exact mem_of_eq ((emb0_3 (stepOf (y 1)) (ix3 (y 0) (inStep (y 1)) (y 2))).trans (eq_rowAt 64 y)) (View.emb_mem_set _ _)

/-- If step `t` writes back `f t` through window 4, the window's array ends as those blocks put together. -/
theorem arr0_4_of (f : Fin 4 → Vec Ideal S16x1024x128 .bf16) (hf : ∀ t : Fin cfg0.N, (dat0 V c).flushed 4 t = f t) :
    (dat0 V c).arrAt 4 cfg0.N = stack 128 f := by
  refine (dat0 V c).arrAt_eq_of_cover 4 (stack 128 f) (fun t _ => ?_) (fun y => ?_)
  · rw [hf]
    funext x
    refine Eq.trans ?_ (congrArg (stack 128 f) (emb0_4 t x)).symm
    exact (stack_rowAt 128 f t x).symm
  · refine ⟨stepOf (y 1), flush0_4 _, ?_⟩
    exact mem_of_eq ((emb0_4 (stepOf (y 1)) (ix3 (y 0) (inStep (y 1)) (y 2))).trans (eq_rowAt 128 y)) (View.emb_mem_set _ _)

/-- A row of `x`, read through the block of its step. -/
theorem rows_apply (x : Vec Ideal S4096x1024 .f32) (s : Fin 4096) (d : Fin 1024) :
    rows x (stepOf s) (ix2 (inStep s) d) = x (ix2 s d) := by
  have h : rowAt (stepOf s) (inStep s) = s := Fin.ext (by show s.val / 1024 * 1024 + s.val % 1024 = s.val; omega)
  show x (ix2 (rowAt (stepOf s) (inStep s)) d) = _
  rw [h]

/-- The queries that the projection region leaves, from its inputs `x` and its stacked weights `w`. -/
def qOf (x : Vec Ideal S4096x1024 .f32) (w : Vec Ideal S1024x3072 .bf16) : Vec Ideal S16x4096x64 .bf16 :=
  stack 64 fun t => out0_2 (rows x t) w

/-- The keys that it leaves. -/
def kOf (x : Vec Ideal S4096x1024 .f32) (w : Vec Ideal S1024x3072 .bf16) : Vec Ideal S16x4096x64 .bf16 :=
  stack 64 fun t => out0_3 (rows x t) w

/-- The extended values that it leaves. -/
def vOf (x : Vec Ideal S4096x1024 .f32) (w : Vec Ideal S1024x3072 .bf16) : Vec Ideal S16x4096x128 .bf16 :=
  stack 128 fun t => out0_4 (rows x t) w

/-- The array of queries that the projection region leaves. -/
theorem arrQ_eq : (dat0 V c).arrAt 2 cfg0.N = qOf (xArr V c) (wArr V c) := arr0_2_of V c _ (flushed0_2 V c)
/-- The array of keys that the projection region leaves. -/
theorem arrK_eq : (dat0 V c).arrAt 3 cfg0.N = kOf (xArr V c) (wArr V c) := arr0_3_of V c _ (flushed0_3 V c)
/-- The array of extended values that the projection region leaves. -/
theorem arrV_eq : (dat0 V c).arrAt 4 cfg0.N = vOf (xArr V c) (wArr V c) := arr0_4_of V c _ (flushed0_4 V c)

/-- A query is a row of `x` against a column of the stacked weights. -/
theorem qOf_apply (x : Vec Ideal S4096x1024 .f32) (w : Vec Ideal S1024x3072 .bf16) (h : Fin 16) (s : Fin 4096) (k : Fin 64) :
    qOf x w (ix3 h s k) = ∑ d : Fin 1024, x (ix2 s d) * w (ix2 d (headCol 0 (by omega) h k)) := by
  rw [qOf, stack_apply, out0_2_apply]
  simp only [rows_apply]

/-- A key, likewise. -/
theorem kOf_apply (x : Vec Ideal S4096x1024 .f32) (w : Vec Ideal S1024x3072 .bf16) (h : Fin 16) (s : Fin 4096) (k : Fin 64) :
    kOf x w (ix3 h s k) = ∑ d : Fin 1024, x (ix2 s d) * w (ix2 d (headCol 1024 (by omega) h k)) := by
  rw [kOf, stack_apply, out0_3_apply]
  simp only [rows_apply]

/-- A value, likewise. -/
theorem vOf_apply (x : Vec Ideal S4096x1024 .f32) (w : Vec Ideal S1024x3072 .bf16) (h : Fin 16) (s : Fin 4096) (k : Fin 64) :
    vOf x w (ix3 h s (wide k)) = ∑ d : Fin 1024, x (ix2 s d) * w (ix2 d (headCol 2048 (by omega) h k)) := by
  rw [vOf, stack_apply, out0_4_apply]
  simp only [rows_apply]

/-- Column 64 of the extended values holds ones. -/
theorem vOf_one (x : Vec Ideal S4096x1024 .f32) (w : Vec Ideal S1024x3072 .bf16) (h : Fin 16) (s : Fin 4096) :
    vOf x w (ix3 h s 64) = 1 := by
  rw [vOf, stack_apply, out0_4_one]

/-! ## The attention region -/

/-- Where the blocks of the attention region begin, in units of blocks. -/
theorem index1 : ∀ t : Fin cfg1.N,
    (win1_0.index t 0 = 0 ∧ win1_0.index t 1 = t.val ∧ win1_0.index t 2 = 0)
    ∧ (win1_1.index t 0 = 0 ∧ win1_1.index t 1 = 0 ∧ win1_1.index t 2 = 0)
    ∧ (win1_2.index t 0 = 0 ∧ win1_2.index t 1 = 0 ∧ win1_2.index t 2 = 0)
    ∧ (win1_3.index t 0 = 0 ∧ win1_3.index t 1 = 0)
    ∧ (win1_4.index t 0 = t.val ∧ win1_4.index t 1 = 0) := by decide +kernel

/-- The queries, as the attention region finds them. -/
abbrev qArr : Vec Ideal S16x4096x64 .bf16 := V c main_v9_0
/-- The keys, as the attention region finds them. -/
abbrev kArr : Vec Ideal S16x4096x64 .bf16 := V c main_v9_1
/-- The extended values, as the attention region finds them. -/
abbrev vArr : Vec Ideal S16x4096x128 .bf16 := V c main_v9_2
/-- The output weights, as the attention region finds them. -/
abbrev pArr : Vec Ideal S1024x1024 .bf16 := V c main_v8

/-- Row `i` of the block of grid step `t` of the attention region. -/
abbrev qRowAt (t : Fin 16) (i : Fin 256) : Fin 4096 := ⟨t.val * 256 + i.val, by omega⟩

/-- The grid step of the attention region that computes row `s`. -/
abbrev qStepOf (s : Fin 4096) : Fin 16 := ⟨s.val / 256, by omega⟩

/-- Row `s` within its block. -/
abbrev qInStep (s : Fin 4096) : Fin 256 := ⟨s.val % 256, by omega⟩

/-- A row is the row of its step at its place. -/
theorem qRowAt_step (s : Fin 4096) : qRowAt (qStepOf s) (qInStep s) = s :=
  Fin.ext (by show s.val / 256 * 256 + s.val % 256 = s.val; omega)

/-- The block of 256 rows of queries that grid step `t` reads. -/
def qRows (q : Vec Ideal S16x4096x64 .bf16) (t : Fin 16) : Vec Ideal S16x256x64 .bf16 :=
  fun j => q (ix3 (j 0) (qRowAt t (j 1)) (j 2))

/-- A grid step of the attention reads its block of rows of the queries. -/
theorem iblk1_0_eq (t : Fin cfg1.N) : iblk1 V c 0 t = qRows (qArr V c) t := by
  funext x
  refine congrArg (V c main_v9_0) (funext fun a => Fin.ext ?_)
  obtain ⟨⟨h0, h1, h2⟩, -⟩ := index1 t
  match a with
  | ⟨0, _⟩ =>
    show win1_0.index t 0 * 16 + 1 * (x 0).val = (x 0).val
    rw [h0]; omega
  | ⟨1, _⟩ =>
    show win1_0.index t 1 * 256 + 1 * (x 1).val = t.val * 256 + (x 1).val
    rw [h1, one_mul]
  | ⟨2, _⟩ =>
    show win1_0.index t 2 * 64 + 1 * (x 2).val = (x 2).val
    rw [h2]; omega

/-- Every grid step of the attention reads all the keys. -/
theorem iblk1_1_eq (t : Fin cfg1.N) : iblk1 V c 1 t = kArr V c := by
  funext x
  refine congrArg (V c main_v9_1) (funext fun a => Fin.ext ?_)
  obtain ⟨-, ⟨h0, h1, h2⟩, -⟩ := index1 t
  match a with
  | ⟨0, _⟩ =>
    show win1_1.index t 0 * 16 + 1 * (x 0).val = (x 0).val
    rw [h0]; omega
  | ⟨1, _⟩ =>
    show win1_1.index t 1 * 4096 + 1 * (x 1).val = (x 1).val
    rw [h1]; omega
  | ⟨2, _⟩ =>
    show win1_1.index t 2 * 64 + 1 * (x 2).val = (x 2).val
    rw [h2]; omega

/-- Every grid step of the attention reads all the extended values. -/
theorem iblk1_2_eq (t : Fin cfg1.N) : iblk1 V c 2 t = vArr V c := by
  funext x
  refine congrArg (V c main_v9_2) (funext fun a => Fin.ext ?_)
  obtain ⟨-, -, ⟨h0, h1, h2⟩, -⟩ := index1 t
  match a with
  | ⟨0, _⟩ =>
    show win1_2.index t 0 * 16 + 1 * (x 0).val = (x 0).val
    rw [h0]; omega
  | ⟨1, _⟩ =>
    show win1_2.index t 1 * 4096 + 1 * (x 1).val = (x 1).val
    rw [h1]; omega
  | ⟨2, _⟩ =>
    show win1_2.index t 2 * 128 + 1 * (x 2).val = (x 2).val
    rw [h2]; omega

/-- Every grid step of the attention reads the whole of the output weights. -/
theorem iblk1_3_eq (t : Fin cfg1.N) : iblk1 V c 3 t = pArr V c := by
  funext x
  refine congrArg (V c main_v8) (funext fun a => Fin.ext ?_)
  obtain ⟨-, -, -, ⟨h0, h1⟩, -⟩ := index1 t
  match a with
  | ⟨0, _⟩ =>
    show win1_3.index t 0 * 1024 + 1 * (x 0).val = (x 0).val
    rw [h0]; omega
  | ⟨1, _⟩ =>
    show win1_3.index t 1 * 1024 + 1 * (x 1).val = (x 1).val
    rw [h1]; omega

/-- The output's block at step `t`. -/
def outRows (q : Vec Ideal S16x4096x64 .bf16) (k : Vec Ideal S16x4096x64 .bf16) (v : Vec Ideal S16x4096x128 .bf16)
    (w : Vec Ideal S1024x1024 .bf16) (t : Fin 16) : Vec Ideal S256x1024 .f32 :=
  out1_4 (qRows q t) k v w

/-- What a grid step of the attention region writes back. -/
theorem flushed1_4 (t : Fin cfg1.N) :
    (dat1 V c).flushed 4 t = outRows (qArr V c) (kArr V c) (vArr V c) (pArr V c) t :=
  (after1_4 V c t).trans
    (congr (congr (congrArg₂ out1_4 (iblk1_0_eq V c t) (iblk1_1_eq V c t)) (iblk1_2_eq V c t)) (iblk1_3_eq V c t))

/-- The output, put together from the blocks of 256 rows that `f` gives. -/
def stackRows (f : Fin 16 → Vec Ideal S256x1024 .f32) : Vec Ideal S4096x1024 .f32 :=
  fun y => f (qStepOf (y 0)) (ix2 (qInStep (y 0)) (y 1))

/-- The output put together, at a row of block `t`, is that block. -/
theorem stackRows_rowAt (f : Fin 16 → Vec Ideal S256x1024 .f32) (t : Fin 16) (x : S256x1024.Idx) :
    stackRows f (ix2 (qRowAt t (x 0)) (x 1)) = f t x := by
  have hlt : (x 0).val < 256 := (x 0).isLt
  have h1 : qStepOf (qRowAt t (x 0)) = t := Fin.ext (by show (t.val * 256 + (x 0).val) / 256 = t.val; omega)
  have h2 : qInStep (qRowAt t (x 0)) = x 0 := Fin.ext (by show (t.val * 256 + (x 0).val) % 256 = (x 0).val; omega)
  show f (qStepOf (qRowAt t (x 0))) (ix2 (qInStep (qRowAt t (x 0))) (x 1)) = f t x
  rw [h1, h2]
  exact congrArg (f t) (eq_ix2 x).symm

/-- The output put together, at an index. -/
theorem stackRows_apply (f : Fin 16 → Vec Ideal S256x1024 .f32) (s : Fin 4096) (n : Fin 1024) :
    stackRows f (ix2 s n) = f (qStepOf s) (ix2 (qInStep s) n) := rfl

/-- Every row of the output put together is a row of a block. -/
theorem eq_qRowAt (y : S4096x1024.Idx) : ix2 (qRowAt (qStepOf (y 0)) (qInStep (y 0))) (y 1) = y :=
  (congrArg (fun r => ix2 r (y 1)) (qRowAt_step (y 0))).trans (eq_ix2 y).symm

/-- Where an element of the output's block lies in the output. -/
theorem emb1_4 (t : Fin cfg1.N) (x : S256x1024.Idx) :
    ((cfg1.win 4).blk t).view.emb x = (ix2 (qRowAt t (x 0)) (x 1) : S4096x1024.Idx) := by
  obtain ⟨-, -, -, -, h0, h1⟩ := index1 t
  funext a
  apply Fin.ext
  match a with
  | ⟨0, _⟩ =>
    show win1_4.index t 0 * 256 + 1 * (x 0).val = t.val * 256 + (x 0).val
    rw [h0, one_mul]
  | ⟨1, _⟩ =>
    show win1_4.index t 1 * 1024 + 1 * (x 1).val = (x 1).val
    rw [h1]; omega

/-- If step `t` writes back `f t`, the output ends as those blocks put together. -/
theorem arr1_4_of (f : Fin 16 → Vec Ideal S256x1024 .f32) (hf : ∀ t : Fin cfg1.N, (dat1 V c).flushed 4 t = f t) :
    (dat1 V c).arrAt 4 cfg1.N = stackRows f := by
  refine (dat1 V c).arrAt_eq_of_cover 4 (stackRows f) (fun t _ => ?_) (fun y => ?_)
  · rw [hf]
    funext x
    refine Eq.trans ?_ (congrArg (stackRows f) (emb1_4 t x)).symm
    exact (stackRows_rowAt f t x).symm
  · refine ⟨qStepOf (y 0), flush1_4 _, ?_⟩
    exact mem_of_eq ((emb1_4 (qStepOf (y 0)) (ix2 (qInStep (y 0)) (y 1))).trans (eq_qRowAt y)) (View.emb_mem_set _ _)

/-- The output that the attention region leaves, from its queries, keys, extended values and output weights. -/
def outOf (q k : Vec Ideal S16x4096x64 .bf16) (v : Vec Ideal S16x4096x128 .bf16) (w : Vec Ideal S1024x1024 .bf16) :
    Vec Ideal S4096x1024 .f32 := stackRows (outRows q k v w)

/-- The output array that the attention region leaves. -/
theorem arrO_eq : (dat1 V c).arrAt 4 cfg1.N = outOf (qArr V c) (kArr V c) (vArr V c) (pArr V c) :=
  arr1_4_of V c _ (flushed1_4 V c)

/-- The output at an index: the heads' rows of quotients, side by side, against a column of the output weights. -/
theorem outOf_apply (q k : Vec Ideal S16x4096x64 .bf16) (v : Vec Ideal S16x4096x128 .bf16) (w : Vec Ideal S1024x1024 .bf16)
    (s : Fin 4096) (n : Fin 1024) :
    outOf q k v w (ix2 s n)
      = ∑ j : Fin 1024, quotientOfSums (fun t : Fin 4096 => ∑ d : Fin 64, q (ix3 (headOf j) s d) * k (ix3 (headOf j) t d))
          (fun t => v (ix3 (headOf j) t (wide (colOf j)))) (fun t => v (ix3 (headOf j) t 64)) * w (ix2 j n) := by
  have hq (h : Fin 16) (d : Fin 64) : qRows q (qStepOf s) (ix3 h (qInStep s) d) = q (ix3 h s d) :=
    congrArg (fun r => q (ix3 h r d)) (qRowAt_step s)
  rw [outOf, stackRows_apply]
  refine (out_apply (qRows q (qStepOf s)) k v w (qInStep s) n).trans ?_
  simp only [hq]

end Cert.Attention

end
-- ==== Proof.Host.lean ====
/- What the host prepares for the kernel: the three projection weights, stacked column by column, and the output weights. -/
module

public import proofs.«01_k».proof.Proof.Arrays
public import Idealize.ShloMosaic.Lib.Claim

@[expose] public section

noncomputable section

namespace Cert.Attention

open Idealize.ShloMosaic Idealize.ShloMosaic.TcCoe Cert.KernelIdeal Cert.KernelIdeal.Gen Idealize.SL.Sem

/-- One projection's weights, the heads side by side. -/
def flat (w : Vec Ideal S16x1024x64 .f32) : Vec Ideal S1024x1024 .f32 :=
  shapeCast S1024x1024 (transpose S1024x16x64 [1, 0, 2] w transposes_S16x1024x64_S1024x16x64_1_0_2) shapeCasts_S1024x16x64_S1024x1024

/-- The side-by-side weights, at an index. -/
theorem flat_apply (w : Vec Ideal S16x1024x64 .f32) (d : Fin 1024) (j : Fin 1024) :
    flat w (ix2 d j) = w (ix3 (headOf j) d (colOf j)) := by
  pointwise [flat]

/-- Three square arrays, side by side. -/
def sideBySide3 (a b c : FVec Ideal S1024x1024 .f32) : FVec Ideal S1024x3072 .bf16 :=
  truncf .bf16 (concatenate S1024x3072 1 [⟨S1024x1024, a⟩, ⟨S1024x1024, b⟩, ⟨S1024x1024, c⟩]
    concatenates_S1024x1024_S1024x1024_S1024x1024_S1024x3072_d1 : FVec Ideal S1024x3072 .f32) bitsLt_bf16_f32

/-- The three projections' weights, side by side. -/
def stacked (wq wk wv : Vec Ideal S16x1024x64 .f32) : Vec Ideal S1024x3072 .bf16 := sideBySide3 (flat wq) (flat wk) (flat wv)

/-- The stacked weights at column `c` of head `h` of projection `p`. -/
theorem stacked_apply (w : Fin 3 → Vec Ideal S16x1024x64 .f32) (p : Fin 3) (hp) (h : Fin 16) (d : Fin 1024) (k : Fin 64) :
    stacked (w 0) (w 1) (w 2) (ix2 d (headCol (1024 * p.val) hp h k)) = w p (ix3 h d k) := by
  have hj : (64 * h.val + k.val) < 1024 := by omega
  have e := concatenate_ofFn_apply (t := S1024x3072) (s₁ := S1024x1024) 1 (fun p : Fin 3 => flat (w p))
    concatenates_S1024x1024_S1024x1024_S1024x1024_S1024x3072_d1 rfl 1024 rfl (ix2 d (headCol (1024 * p.val) hp h k)) p
    (by show (1024 * p.val + 64 * h.val + k.val) / 1024 = p.val; omega) (ix2 d ⟨64 * h.val + k.val, hj⟩)
    (by show 64 * h.val + k.val = (1024 * p.val + 64 * h.val + k.val) % 1024; omega)
    (by
      intro b hb
      fin_cases b
      · rfl
      · exact absurd rfl hb)
  refine Eq.trans e ?_
  rw [flat_apply]
  have h1 : headOf ⟨64 * h.val + k.val, hj⟩ = h := Fin.ext (by show (64 * h.val + k.val) / 64 = h.val; omega)
  have h2 : colOf ⟨64 * h.val + k.val, hj⟩ = k := Fin.ext (by show (64 * h.val + k.val) % 64 = k.val; omega)
  rw [h1, h2]

variable (m : (ℓ : Loc nD τ sig) → Buf (Elt Ideal) ℓ) (ρ : Dev nD → PrngReg) (c : Dev nD)

/-- The stacked weights, as the projection region finds them. -/
theorem wArr_eq : wArr (V1 m ρ) c
    = stacked (m ((c : Thread nD τ).loc main_arg1)) (m ((c : Thread nD τ).loc main_arg2)) (m ((c : Thread nD τ).loc main_arg3)) := by
  let U : Valuation τ sig (Elt Ideal) := StableHlo.after (hostOps0.take 6) (W0 m ρ c)
  have h1 : U (Proc.devRef .tc main_v1) = flat (m ((c : Thread nD τ).loc main_arg1)) := by
    show StableHlo.after (hostOps0.take 6) (W0 m ρ c) _ = _
    simp only [List.take]
    after_results <;> rfl
  have h3 : U (Proc.devRef .tc main_v3) = flat (m ((c : Thread nD τ).loc main_arg2)) := by
    show StableHlo.after (hostOps0.take 6) (W0 m ρ c) _ = _
    simp only [List.take]
    after_results <;> rfl
  have h5 : U (Proc.devRef .tc main_v5) = flat (m ((c : Thread nD τ).loc main_arg3)) := by
    show StableHlo.after (hostOps0.take 6) (W0 m ρ c) _ = _
    simp only [List.take]
    after_results <;> rfl
  have h : StableHlo.after hostOps0 (W0 m ρ c) (Proc.devRef .tc main_v7)
      = sideBySide3 (U (Proc.devRef .tc main_v1)) (U (Proc.devRef .tc main_v3)) (U (Proc.devRef .tc main_v5)) := by
    after_results <;> rfl
  refine h.trans ?_
  rw [h1, h3, h5]
  rfl

/-- The inputs, as the projection region finds them. -/
theorem xArr_eq : xArr (V1 m ρ) c = m ((c : Thread nD τ).loc main_arg0) := W1_args m ρ c main_arg0 (by decide)

/-- The output weights, as the attention region finds them. -/
theorem pArr_eq : pArr (V2 m ρ) c = m ((c : Thread nD τ).loc main_arg4) := by
  refine (W2_of_ne m ρ c main_v8 (by decide)).trans ?_
  show StableHlo.after hostOps0 (W0 m ρ c) (Proc.devRef .tc main_v8) = _
  after_results <;> rfl

/-- The queries, as the attention region finds them. -/
theorem qArr_eq : qArr (V2 m ρ) c = qOf (xArr (V1 m ρ) c) (wArr (V1 m ρ) c) := (W2_arr m ρ c 2).trans (arrQ_eq _ c)
/-- The keys, as the attention region finds them. -/
theorem kArr_eq : kArr (V2 m ρ) c = kOf (xArr (V1 m ρ) c) (wArr (V1 m ρ) c) := (W2_arr m ρ c 3).trans (arrK_eq _ c)
/-- The extended values, as the attention region finds them. -/
theorem vArr_eq : vArr (V2 m ρ) c = vOf (xArr (V1 m ρ) c) (wArr (V1 m ρ) c) := (W2_arr m ρ c 4).trans (arrV_eq _ c)

end Cert.Attention

end
-- ==== Proof.KernelRun.lean ====
/- The kernel's run, with what it leaves in its result array. -/
module

public import proofs.«01_k».proof.Proof.Host

@[expose] public section

set_option maxRecDepth 16384

noncomputable section

namespace Cert.Attention

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the kernel computes from its five arguments: the projections by the stacked weights, then the attention. -/
def kernelOut (x : Vec Ideal S4096x1024 .f32) (wq wk wv : Vec Ideal S16x1024x64 .f32) (wp : Vec Ideal S1024x1024 .f32) :
    Vec Ideal S4096x1024 .f32 :=
  outOf (qOf x (stacked wq wk wv)) (kOf x (stacked wq wk wv)) (vOf x (stacked wq wk wv)) wp

variable (m : (ℓ : Loc nD τ sig) → Buf (Elt Ideal) ℓ) (ρ : Dev nD → PrngReg)

/-- What the result array holds after the last region. -/
theorem result_eq (c : Dev nD) : W3 m ρ c (Proc.devRef .tc main_v10)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) := by
  refine (W3_arr m ρ c 4).trans ((arrO_eq (V2 m ρ) c).trans ?_)
  rw [qArr_eq, kArr_eq, vArr_eq, pArr_eq, xArr_eq, wArr_eq]
  rfl

set_option backward.isDefEq.respectTransparency.types false in
/-- Every execution of the kernel ends, with the result array at `kernelOut` of the arguments and the arguments unchanged. -/
theorem kernel_run : θ_run defs (onTc (τ := τ) (main (F := Ideal))) ⟨m, fun _ => 0, ρ⟩ (fun r => ∀ c : Dev nD,
      r.2.mem ((c.tc : Thread nD τ).loc main_v10)
        = kernelOut (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v10 (by decide))).trans (result_eq m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Attention

end
-- ==== Proof.Reference.lean ====
/- What the reference computes: every head's attention, joined and taken through the output weights, read at an index. -/
module

public import proofs.«01_k».proof.Proof.Attend
public import proofs.«01_k».proof.Proof.Gen.ReferenceIdeal.Read
public import Idealize.ShloMosaic.Lib.Pointwise

@[expose] public section

noncomputable section

namespace Cert.Attention

open Idealize.ShloMosaic Cert.ReferenceIdeal Cert.ReferenceIdeal.Read

variable (x : Vec Ideal S4096x1024 .f32) (wq wk wv : Vec Ideal S16x1024x64 .f32) (wp : Vec Ideal S1024x1024 .f32)

/-- The inputs' projections by one head's weights. -/
def proj (w : Vec Ideal S16x1024x64 .f32) (h : Fin 16) (s : Fin 4096) (k : Fin 64) : EReal :=
  ∑ d : Fin 1024, x (ix2 s d) * w (ix3 h d k)

/-- One head's scores before scaling: query `s` against key `t`. -/
def score (h : Fin 16) (s t : Fin 4096) : EReal := ∑ k : Fin 64, proj x wq h s k * proj x wk h t k

/-- The reference's projection at an index. -/
theorem ref_proj (w : Vec Ideal S16x1024x64 .f32) (h : Fin 16) (s : Fin 4096) (k : Fin 64) :
    val_main_v1 (F := Ideal) x w (ix3 h s k) = proj x w h s k := by
  pointwise [val_main_v1, val_main_v0]
  exact Finset.sum_congr rfl fun d _ => mul_comm _ _

/-- The constant that the reference scales the scores by is one eighth. -/
theorem ofBits_eighth : Ideal.ofBits .f32 0x3E000000#32 = ((8⁻¹ : ℝ) : EReal) := by
  simp only [Ideal.ofBits, Ideal.ieee]
  simp
  rw [← EReal.coe_mul]
  norm_num

/-- The reference's scaled score of query `s` against key `t`. -/
theorem ref_score (h : Fin 16) (s t : Fin 4096) :
    val_main_v8 (F := Ideal) x wq wk (ix3 h s t) = score x wq wk h s t * ((8⁻¹ : ℝ) : EReal) := by
  have e : val_main_v6 (F := Ideal) x wq wk (ix3 h s t) = score x wq wk h s t := by
    unfold val_main_v6
    refine Eq.trans (b := ∑ k : Fin 64, val_main_v1 (F := Ideal) x wq (ix3 h s k) * val_main_v3 (F := Ideal) x wk (ix3 h t k)) ?_ ?_
    · generalize val_main_v1 (F := Ideal) x wq = y0
      generalize val_main_v3 (F := Ideal) x wk = y1
      pointwise
    · exact Finset.sum_congr rfl fun k _ => congrArg₂ (· * ·) (ref_proj x wq h s k) (ref_proj x wk h t k)
  have e7 : val_main_v7 (F := Ideal) (ix3 h s t) = ((8⁻¹ : ℝ) : EReal) := by
    pointwise [val_main_v7, val_main_cst]
    exact ofBits_eighth
  rw [val_main_v8_apply, e, e7]
  rfl

/-- The greatest of a row, with the bottom element beside it. -/
theorem max_bot_fold {n : Nat} (f : Fin n → EReal) : max ⊥ (Finset.univ.fold max ⊥ f) = rowMax f := max_eq_right bot_le

/-- The reference's row maximum, of the row of scaled scores. -/
theorem ref_max (h : Fin 16) (s : Fin 4096) :
    val_main_v11 (F := Ideal) x wq wk (ix2 h s) = rowMax (fun t => val_main_v8 (F := Ideal) x wq wk (ix3 h s t)) := by
  have e : val_main_v9 (F := Ideal) x wq wk (ix2 h s)
      = Finset.univ.fold max ⊥ (fun t => val_main_v8 (F := Ideal) x wq wk (ix3 h s t)) := by
    unfold val_main_v9
    generalize val_main_v8 (F := Ideal) x wq wk = y
    pointwise [val_main_cst_0]
    rw [ofBits_negInf]
  have e10 : val_main_v10 (F := Ideal) (ix2 h s) = ⊥ := by
    pointwise [val_main_v10, val_main_cst_1]
    exact ofBits_negInf
  rw [val_main_v11_apply, e, e10]
  exact max_bot_fold _

/-- The reference's unnormalised weight: the exponential of a scaled score's distance to its row's maximum. -/
theorem ref_exp (h : Fin 16) (s t : Fin 4096) :
    val_main_v15 (F := Ideal) x wq wk (ix3 h s t)
      = Ideal.exp (val_main_v8 (F := Ideal) x wq wk (ix3 h s t)
          - rowMax (fun u => val_main_v8 (F := Ideal) x wq wk (ix3 h s u))) := by
  rw [← ref_max]
  unfold val_main_v15 val_main_v14 val_main_v13 val_main_v12
  generalize val_main_v8 (F := Ideal) x wq wk = y
  generalize val_main_v11 (F := Ideal) x wq wk = z
  pointwise

/-- The reference's normalised weight. -/
theorem ref_weight (h : Fin 16) (s t : Fin 4096) :
    val_main_v19 (F := Ideal) x wq wk (ix3 h s t)
      = Ideal.div (val_main_v15 (F := Ideal) x wq wk (ix3 h s t)) (∑ u, val_main_v15 (F := Ideal) x wq wk (ix3 h s u)) := by
  unfold val_main_v19 val_main_v18 val_main_v17 val_main_v16
  generalize val_main_v15 (F := Ideal) x wq wk = y
  pointwise [val_main_cst_2]

/-- One head's row: the normalised weights of a query, against a column of the values. -/
theorem ref_head (h : Fin 16) (s : Fin 4096) (k : Fin 64) :
    val_main_v20 (F := Ideal) x wq wk wv (ix3 h s k)
      = sumOfQuotients (fun t => score x wq wk h s t * ((8⁻¹ : ℝ) : EReal)) (fun t => proj x wv h t k) := by
  refine Eq.trans (b := ∑ t : Fin 4096, val_main_v19 (F := Ideal) x wq wk (ix3 h s t) * val_main_v5 (F := Ideal) x wv (ix3 h t k)) ?_ ?_
  · unfold val_main_v20
    generalize val_main_v19 (F := Ideal) x wq wk = y0
    generalize val_main_v5 (F := Ideal) x wv = y1
    pointwise
  · refine Finset.sum_congr rfl fun t _ => congrArg₂ (· * ·) ?_ (ref_proj x wv h t k)
    simp only [ref_weight, ref_exp, ref_score]

/-- The reference's result at an index: the heads' rows side by side, against a column of the output weights. -/
theorem ref_out (s : Fin 4096) (n : Fin 1024) :
    val_main_v23 (F := Ideal) x wq wk wv wp (ix2 s n)
      = ∑ j : Fin 1024, sumOfQuotients (fun t => score x wq wk (headOf j) s t * ((8⁻¹ : ℝ) : EReal))
          (fun t => proj x wv (headOf j) t (colOf j)) * wp (ix2 j n) := by
  simp only [← ref_head]
  unfold val_main_v23 val_main_v22 val_main_v21
  generalize val_main_v20 (F := Ideal) x wq wk wv = y
  pointwise

end Cert.Attention

end
-- ==== Proof.Finite.lean ====
/- The precondition: what it says of the inputs and the weights, and so of the scores. -/
module

public import proofs.«01_k».proof.Pre_finite_inputs
public import proofs.«01_k».proof.Proof.Reference
public import Idealize.ShloMosaic.Lib.ReduceAll
public import Idealize.ShloMosaic.Lib.Affine

@[expose] public section

noncomputable section

namespace Cert.Attention

open Idealize.ShloMosaic Cert.ReferenceIdeal

/-- The precondition's own side conditions. -/
theorem pre_facts : Cert.Pre_finite_inputs.Facts :=
  ⟨by decide, by decide, by decide, by decide, by decide⟩

/-- An entry is real: neither of the infinities. -/
abbrev IsReal (a : EReal) : Prop := ∃ r : ℝ, a = r

/-- The constant that the precondition compares with is the top element. -/
theorem ofBits_inf : Ideal.ofBits .f32 0x7F800000#32 = ⊤ := by simp [Ideal.ofBits, Ideal.ieee]

/-- An entry whose absolute value is below infinity is real. -/
theorem isReal_of_cmp (a : EReal) (h : Ideal.cmp .olt (max a (-a)) ⊤ = 1#1) : IsReal a := by
  induction a with
  | bot => simp [Ideal.cmp] at h
  | coe r => exact ⟨r, rfl⟩
  | top => simp [Ideal.cmp] at h

/-- An array whose absolute values are all below infinity has real entries. -/
theorem isReal_of_all {s : Shape} {axes} (w : Vec Ideal s .f32) (hb) (hr : s.ReducesTo axes S_) (hu)
    (h : Host.reduce IntOp.andi
        (cmpf .olt (Host.absf w) (broadcastInDim s ![] hb (constant (F := Ideal) S_ .f32 0x7F800000#32)))
        (constantI S_ 1 1#1) hr hu (Shape.Idx.first hu) = 1#1) (i : s.Idx) : IsReal (w i) := by
  haveI : Subsingleton S_.Idx := ⟨fun a b => funext fun d => d.elim0⟩
  have e := Host.reduce_andi_all _ _ hr hu _ h i
  apply isReal_of_cmp
  rw [← ofBits_inf]
  exact e

variable (x : Vec Ideal S4096x1024 .f32) (wq wk wv : Vec Ideal S16x1024x64 .f32) (wp : Vec Ideal S1024x1024 .f32)

/-- The precondition says that the inputs and the query and key weights are real. -/
theorem isReal_of_pre [Cert.Pre_finite_inputs.Facts]
    (h : Cert.Pre_finite_inputs.fn (F := Ideal) x wq wk wv wp = fun _ => 1#1) :
    (∀ i, IsReal (x i)) ∧ (∀ i, IsReal (wq i)) ∧ ∀ i, IsReal (wk i) := by
  have h0 := congrFun h (Shape.Idx.first Cert.Pre_finite_inputs.Facts.h_S_)
  obtain ⟨h1, hk⟩ := IntOp.andi_eq_one.1 h0
  obtain ⟨hx, hq⟩ := IntOp.andi_eq_one.1 h1
  exact ⟨isReal_of_all x _ _ _ hx, isReal_of_all wq _ _ _ hq, isReal_of_all wk _ _ _ hk⟩

/-- A finite sum of products of real entries is real. -/
theorem isReal_sum_mul {n : Nat} (f g : Fin n → EReal) (hf : ∀ i, IsReal (f i)) (hg : ∀ i, IsReal (g i)) :
    IsReal (∑ i, f i * g i) := by
  choose a ha using hf
  choose b hb using hg
  refine ⟨∑ i, a i * b i, ?_⟩
  rw [← coe_sum]
  exact Finset.sum_congr rfl fun i _ => by rw [ha, hb, EReal.coe_mul]

/-- Real inputs and weights have real scores. -/
theorem isReal_score (hx : ∀ i, IsReal (x i)) (hq : ∀ i, IsReal (wq i)) (hk : ∀ i, IsReal (wk i)) (h : Fin 16)
    (s t : Fin 4096) : IsReal (score x wq wk h s t) :=
  isReal_sum_mul _ _ (fun k => isReal_sum_mul _ _ (fun d => hx _) fun d => hq _)
    fun k => isReal_sum_mul _ _ (fun d => hx _) fun d => hk _

end Cert.Attention

end
-- ==== Proof.Equation.lean ====
/- The equation: on real scores the kernel's array is the reference's. -/
module

public import proofs.«01_k».proof.Proof.KernelRun
public import proofs.«01_k».proof.Proof.Finite

@[expose] public section

noncomputable section

namespace Cert.Attention

open Idealize.ShloMosaic Cert.KernelIdeal

variable (x : Vec Ideal S4096x1024 .f32) (wq wk wv : Vec Ideal S16x1024x64 .f32) (wp : Vec Ideal S1024x1024 .f32)

/-- The kernel's queries, at an index. -/
theorem q_proj (h : Fin 16) (s : Fin 4096) (k : Fin 64) : qOf x (stacked wq wk wv) (ix3 h s k) = proj x wq h s k :=
  (qOf_apply x _ h s k).trans
    (Finset.sum_congr rfl fun d _ => congrArg (x (ix2 s d) * ·) (stacked_apply ![wq, wk, wv] 0 (by decide) h d k))

/-- The kernel's keys, at an index. -/
theorem k_proj (h : Fin 16) (s : Fin 4096) (k : Fin 64) : kOf x (stacked wq wk wv) (ix3 h s k) = proj x wk h s k :=
  (kOf_apply x _ h s k).trans
    (Finset.sum_congr rfl fun d _ => congrArg (x (ix2 s d) * ·) (stacked_apply ![wq, wk, wv] 1 (by decide) h d k))

/-- The kernel's values, at an index of their first 64 columns. -/
theorem v_proj (h : Fin 16) (s : Fin 4096) (k : Fin 64) :
    vOf x (stacked wq wk wv) (ix3 h s (wide k)) = proj x wv h s k :=
  (vOf_apply x _ h s k).trans
    (Finset.sum_congr rfl fun d _ => congrArg (x (ix2 s d) * ·) (stacked_apply ![wq, wk, wv] 2 (by decide) h d k))

/-- The kernel's result at an index: the heads' quotients of sums, side by side, against a column of the output weights. -/
theorem kernelOut_apply (s : Fin 4096) (n : Fin 1024) :
    kernelOut x wq wk wv wp (ix2 s n)
      = ∑ j : Fin 1024, quotientOfSums (fun t => score x wq wk (headOf j) s t) (fun t => proj x wv (headOf j) t (colOf j))
          (fun _ => 1) * wp (ix2 j n) := by
  unfold kernelOut
  rw [outOf_apply]
  simp only [q_proj, k_proj, v_proj, vOf_one]
  rfl

/-- On real scores the kernel's array is the reference's. -/
theorem kernelOut_eq (hs : ∀ h s t, IsReal (score x wq wk h s t)) :
    kernelOut x wq wk wv wp = Cert.ReferenceIdeal.Read.val_main_v23 (F := Ideal) x wq wk wv wp := by
  have key : ∀ (s : Fin 4096) (n : Fin 1024), kernelOut x wq wk wv wp (ix2 s n)
      = Cert.ReferenceIdeal.Read.val_main_v23 (F := Ideal) x wq wk wv wp (ix2 s n) := fun s n => by
    rw [kernelOut_apply, ref_out]
    exact Finset.sum_congr rfl fun j _ => congrArg (· * wp (ix2 j n)) (quotientOfSums_eq _ _ fun t => hs _ _ t)
  funext i
  rw [eq_ix2 i]
  exact key _ _

end Cert.Attention

end
-- ==== Proof.Claims.lean ====
/- The claims, one theorem each. -/
module

public import proofs.«01_k».proof.Defs
public import proofs.«01_k».proof.Proof.Gen.Kernel.Frame
public import proofs.«01_k».proof.Proof.Equation
public import Idealize.ShloMosaic.Adequacy
public import Idealize.ShloMosaic.Init

@[expose] public section

noncomputable section

namespace Cert.Attention

open Idealize.ShloMosaic Idealize.SL.Sem

/-- The kernel's side conditions. -/
local instance : Cert.Kernel.Facts := Cert.Kernel.Gen.facts
/-- The idealized kernel's side conditions. -/
local instance : Cert.KernelIdeal.Facts := Cert.KernelIdeal.Gen.facts
/-- The reference's side conditions. -/
local instance : Cert.ReferenceIdeal.Facts := Cert.ReferenceIdeal.Gen.facts
/-- The precondition's side conditions. -/
local instance : Cert.Pre_finite_inputs.Facts := pre_facts

/-- The kernel runs to its end and leaves its arguments and every semaphore as it found them. -/
theorem frame_kernel : Cert.quiescent_Kernel := fun m ρ _ => Cert.Kernel.Gen.frame m ρ

/-- The idealized kernel runs to its end and leaves its arguments and every semaphore as it found them. -/
theorem frame_ideal : Cert.quiescent_KernelIdeal := fun m ρ _ => Cert.KernelIdeal.Gen.frame m ρ

/-- The same, under the precondition. -/
theorem frame_ideal_pre : Cert.quiescent_KernelIdeal_pre_finite_inputs := fun m ρ _ => Cert.KernelIdeal.Gen.frame m ρ

/-- The reference runs to its end and leaves its arguments as it found them; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition. -/
theorem frame_reference_pre : Cert.quiescent_ReferenceIdeal_pre_finite_inputs := fun m ρ _ => frame_reference m ρ trivial

/-- The idealization replaces one constant of the kernel by the number it rounds: `1 / log 256`. -/
theorem preserves : Cert.preserves_Kernel_KernelIdeal :=
  IdealRules.named_const.statement Cert.KernelIdeal.κ "c2" .f32 0x3E38AA3B#32 _ rfl

/-- On real inputs and real query and key weights the idealized kernel and the reference leave the same result array. -/
theorem algebraic : Cert.algebraic_KernelIdeal_ReferenceIdeal_pre_finite_inputs := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  obtain ⟨hx, hq, hk⟩ := isReal_of_pre _ _ _ _ _ (hpre c)
  rw [Cert.ReferenceIdeal.Read.val_main_v23_eq, h0, h1, h2, h3, h4]
  exact (kernelOut_eq _ _ _ _ _ (isReal_score _ _ _ hx hq hk)).symm

end Cert.Attention

end
-- ==== Proof.lean ====
module

public import proofs.«01_k».proof.Defs
public import proofs.«01_k».proof.Proof.Claims

@[expose] public section

noncomputable section

namespace Cert.Proof

open Cert.Attention

/-- Every claim, with the side conditions of the programs and of the precondition. -/
theorem claim : Cert.Claim :=
  ⟨Cert.Kernel.Gen.facts, Cert.KernelIdeal.Gen.facts, Cert.ReferenceIdeal.Gen.facts, pre_facts,
    frame_kernel, frame_ideal, frame_ideal_pre, frame_reference, frame_reference_pre, preserves, algebraic⟩

end Cert.Proof

end
